-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Reference (m : (ℓ : Loc Cert.Reference.nD Cert.Reference.τ Cert.Reference.sig) → Buf (Elt Bits) ℓ) : Prop :=
  True

def Pre_ReferenceIdeal (m : (ℓ : Loc Cert.ReferenceIdeal.nD Cert.ReferenceIdeal.τ Cert.ReferenceIdeal.sig) → Buf (Elt Ideal) ℓ) : Prop :=
  True

def Pre_ScKernel (m : (ℓ : Loc Cert.ScKernel.nD Cert.ScKernel.τ Cert.ScKernel.sig) → Buf (Elt Bits) ℓ) : Prop :=
  True

def Pre_ScKernelIdeal (m : (ℓ : Loc Cert.ScKernelIdeal.nD Cert.ScKernelIdeal.τ Cert.ScKernelIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ScKernel [hScKernel : Cert.ScKernel.Facts] : Prop :=
  ∀ (m : (ℓ : Loc Cert.ScKernel.nD Cert.ScKernel.τ Cert.ScKernel.sig) → Buf (Elt Bits) ℓ) (g : Dev Cert.ScKernel.nD → PrngReg), Pre_ScKernel m →
    θ_run (Cert.ScKernel.defs (F := Bits)) (Cert.ScKernel.threads (F := Bits)) ⟨m, fun _ => 0, g⟩ (fun r => (∀ c : Dev Cert.ScKernel.nD,
      r.2.mem ((c.tc : Thread Cert.ScKernel.nD Cert.ScKernel.τ).loc Cert.ScKernel.main_arg0) = m ((c.tc : Thread Cert.ScKernel.nD Cert.ScKernel.τ).loc Cert.ScKernel.main_arg0)
      ∧ r.2.mem ((c.tc : Thread Cert.ScKernel.nD Cert.ScKernel.τ).loc Cert.ScKernel.main_arg1) = m ((c.tc : Thread Cert.ScKernel.nD Cert.ScKernel.τ).loc Cert.ScKernel.main_arg1))
      ∧ r.2.sem = fun _ => 0)

def quiescent_ScKernelIdeal [hScKernelIdeal : Cert.ScKernelIdeal.Facts] : Prop :=
  ∀ (m : (ℓ : Loc Cert.ScKernelIdeal.nD Cert.ScKernelIdeal.τ Cert.ScKernelIdeal.sig) → Buf (Elt Ideal) ℓ) (g : Dev Cert.ScKernelIdeal.nD → PrngReg), Pre_ScKernelIdeal m →
    θ_run (Cert.ScKernelIdeal.defs (F := Ideal)) (Cert.ScKernelIdeal.threads (F := Ideal)) ⟨m, fun _ => 0, g⟩ (fun r => (∀ c : Dev Cert.ScKernelIdeal.nD,
      r.2.mem ((c.tc : Thread Cert.ScKernelIdeal.nD Cert.ScKernelIdeal.τ).loc Cert.ScKernelIdeal.main_arg0) = m ((c.tc : Thread Cert.ScKernelIdeal.nD Cert.ScKernelIdeal.τ).loc Cert.ScKernelIdeal.main_arg0)
      ∧ r.2.mem ((c.tc : Thread Cert.ScKernelIdeal.nD Cert.ScKernelIdeal.τ).loc Cert.ScKernelIdeal.main_arg1) = m ((c.tc : Thread Cert.ScKernelIdeal.nD Cert.ScKernelIdeal.τ).loc Cert.ScKernelIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v1)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v1) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v2) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def preserves_ScKernel_ScKernelIdeal : Prop :=
  True

def algebraic_ScKernelIdeal_ReferenceIdeal_on_first_rows [hScKernelIdeal : Cert.ScKernelIdeal.Facts] [hReferenceIdeal : Cert.ReferenceIdeal.Facts] [hOn_first_rows : Cert.On_first_rows.Facts] : Prop :=
  ∀ (m : (ℓ : Loc Cert.ScKernelIdeal.nD Cert.ScKernelIdeal.τ Cert.ScKernelIdeal.sig) → Buf (Elt Ideal) ℓ) (g : Dev Cert.ScKernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_ScKernelIdeal m →
    (∀ c : Dev Cert.ScKernelIdeal.nD,
      m' ((c.tc : Thread Cert.ReferenceIdeal.nD Cert.ReferenceIdeal.τ).loc Cert.ReferenceIdeal.main_arg0) = m ((c.tc : Thread Cert.ScKernelIdeal.nD Cert.ScKernelIdeal.τ).loc Cert.ScKernelIdeal.main_arg0)
      ∧ m' ((c.tc : Thread Cert.ReferenceIdeal.nD Cert.ReferenceIdeal.τ).loc Cert.ReferenceIdeal.main_arg1) = m ((c.tc : Thread Cert.ScKernelIdeal.nD Cert.ScKernelIdeal.τ).loc Cert.ScKernelIdeal.main_arg1)) →
    ∃ (v0 : (c : Dev Cert.ScKernelIdeal.nD) → Buf (Elt Ideal) ((c.tc : Thread Cert.ScKernelIdeal.nD Cert.ScKernelIdeal.τ).loc Cert.ScKernelIdeal.main_v1)),
      θ_run (Cert.ScKernelIdeal.defs (F := Ideal)) (Cert.ScKernelIdeal.threads (F := Ideal)) ⟨m, fun _ => 0, g⟩ (fun r => ∀ c : Dev Cert.ScKernelIdeal.nD,
          (∀ i : (⟨3, ![1, 2048, 1024]⟩ : Shape).Idx, (Cert.On_first_rows.fn (F := Ideal) (m ((c.tc : Thread Cert.ScKernelIdeal.nD Cert.ScKernelIdeal.τ).loc Cert.ScKernelIdeal.main_arg0)) (m ((c.tc : Thread Cert.ScKernelIdeal.nD Cert.ScKernelIdeal.τ).loc Cert.ScKernelIdeal.main_arg1))) i = 1#1 → r.2.mem ((c.tc : Thread Cert.ScKernelIdeal.nD Cert.ScKernelIdeal.τ).loc Cert.ScKernelIdeal.main_v1) i = v0 c i)
          ∧ r.2.mem ((c.tc : Thread Cert.ScKernelIdeal.nD Cert.ScKernelIdeal.τ).loc Cert.ScKernelIdeal.main_arg0) = m ((c.tc : Thread Cert.ScKernelIdeal.nD Cert.ScKernelIdeal.τ).loc Cert.ScKernelIdeal.main_arg0)
          ∧ r.2.mem ((c.tc : Thread Cert.ScKernelIdeal.nD Cert.ScKernelIdeal.τ).loc Cert.ScKernelIdeal.main_arg1) = m ((c.tc : Thread Cert.ScKernelIdeal.nD Cert.ScKernelIdeal.τ).loc Cert.ScKernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨3, ![1, 2048, 1024]⟩ : Shape).Idx, (Cert.On_first_rows.fn (F := Ideal) (m ((c.tc : Thread Cert.ScKernelIdeal.nD Cert.ScKernelIdeal.τ).loc Cert.ScKernelIdeal.main_arg0)) (m ((c.tc : Thread Cert.ScKernelIdeal.nD Cert.ScKernelIdeal.τ).loc Cert.ScKernelIdeal.main_arg1))) i = 1#1 → r.2.mem ((c.tc : Thread Cert.ReferenceIdeal.nD Cert.ReferenceIdeal.τ).loc Cert.ReferenceIdeal.main_v2) i = v0 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_ScKernel_Reference_on_first_rows [hScKernel : Cert.ScKernel.Facts] [hReference : Cert.Reference.Facts] [hOn_first_rows : Cert.On_first_rows.Facts] : Prop :=
  ∀ (m : (ℓ : Loc Cert.ScKernel.nD Cert.ScKernel.τ Cert.ScKernel.sig) → Buf (Elt Bits) ℓ) (g : Dev Cert.ScKernel.nD → PrngReg)
    (m' : (ℓ : Loc Cert.Reference.nD Cert.Reference.τ Cert.Reference.sig) → Buf (Elt Bits) ℓ) (g' : Dev Cert.Reference.nD → PrngReg), Pre_ScKernel m →
    (∀ c : Dev Cert.ScKernel.nD,
      m' ((c.tc : Thread Cert.Reference.nD Cert.Reference.τ).loc Cert.Reference.main_arg0) = m ((c.tc : Thread Cert.ScKernel.nD Cert.ScKernel.τ).loc Cert.ScKernel.main_arg0)
      ∧ m' ((c.tc : Thread Cert.Reference.nD Cert.Reference.τ).loc Cert.Reference.main_arg1) = m ((c.tc : Thread Cert.ScKernel.nD Cert.ScKernel.τ).loc Cert.ScKernel.main_arg1)) →
    ∃ (v0 : (c : Dev Cert.ScKernel.nD) → Buf (Elt Bits) ((c.tc : Thread Cert.ScKernel.nD Cert.ScKernel.τ).loc Cert.ScKernel.main_v1)),
      θ_run (Cert.ScKernel.defs (F := Bits)) (Cert.ScKernel.threads (F := Bits)) ⟨m, fun _ => 0, g⟩ (fun r => ∀ c : Dev Cert.ScKernel.nD,
          (∀ i : (⟨3, ![1, 2048, 1024]⟩ : Shape).Idx, (Cert.On_first_rows.fn (F := Bits) (m ((c.tc : Thread Cert.ScKernel.nD Cert.ScKernel.τ).loc Cert.ScKernel.main_arg0)) (m ((c.tc : Thread Cert.ScKernel.nD Cert.ScKernel.τ).loc Cert.ScKernel.main_arg1))) i = 1#1 → r.2.mem ((c.tc : Thread Cert.ScKernel.nD Cert.ScKernel.τ).loc Cert.ScKernel.main_v1) i = v0 c i)
          ∧ r.2.mem ((c.tc : Thread Cert.ScKernel.nD Cert.ScKernel.τ).loc Cert.ScKernel.main_arg0) = m ((c.tc : Thread Cert.ScKernel.nD Cert.ScKernel.τ).loc Cert.ScKernel.main_arg0)
          ∧ r.2.mem ((c.tc : Thread Cert.ScKernel.nD Cert.ScKernel.τ).loc Cert.ScKernel.main_arg1) = m ((c.tc : Thread Cert.ScKernel.nD Cert.ScKernel.τ).loc Cert.ScKernel.main_arg1))
      ∧ θ_run (Cert.Reference.defs (F := Bits)) (onTc (τ := Cert.Reference.τ) (Cert.Reference.main (F := Bits))) ⟨m', fun _ => 0, g'⟩ (fun r => ∀ c : Dev Cert.Reference.nD,
          (∀ i : (⟨3, ![1, 2048, 1024]⟩ : Shape).Idx, (Cert.On_first_rows.fn (F := Bits) (m ((c.tc : Thread Cert.ScKernel.nD Cert.ScKernel.τ).loc Cert.ScKernel.main_arg0)) (m ((c.tc : Thread Cert.ScKernel.nD Cert.ScKernel.τ).loc Cert.ScKernel.main_arg1))) i = 1#1 → r.2.mem ((c.tc : Thread Cert.Reference.nD Cert.Reference.τ).loc Cert.Reference.main_v2) i = v0 c i)
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def Claim : Prop :=
  ∃ (hKernel : Cert.Kernel.Facts) (hKernelIdeal : Cert.KernelIdeal.Facts) (hReference : Cert.Reference.Facts) (hReferenceIdeal : Cert.ReferenceIdeal.Facts) (hScKernel : Cert.ScKernel.Facts) (hScKernelIdeal : Cert.ScKernelIdeal.Facts) (hOn_first_rows : Cert.On_first_rows.Facts),
    quiescent_Kernel (hKernel := hKernel)
    ∧ quiescent_KernelIdeal (hKernelIdeal := hKernelIdeal)
    ∧ quiescent_Reference (hReference := hReference)
    ∧ quiescent_ReferenceIdeal (hReferenceIdeal := hReferenceIdeal)
    ∧ quiescent_ScKernel (hScKernel := hScKernel)
    ∧ quiescent_ScKernelIdeal (hScKernelIdeal := hScKernelIdeal)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
    ∧ preserves_ScKernel_ScKernelIdeal
    ∧ algebraic_ScKernelIdeal_ReferenceIdeal_on_first_rows (hScKernelIdeal := hScKernelIdeal) (hReferenceIdeal := hReferenceIdeal) (hOn_first_rows := hOn_first_rows)
    ∧ bitexact_ScKernel_Reference_on_first_rows (hScKernel := hScKernel) (hReference := hReference) (hOn_first_rows := hOn_first_rows)
-- ==== On_first_rows.lean ====
abbrev S4x2048x1024 : Shape := ⟨3, ![4, 2048, 1024]⟩
abbrev S2048x1024 : Shape := ⟨2, ![2048, 1024]⟩
abbrev S1x2048x1024 : Shape := ⟨3, ![1, 2048, 1024]⟩
abbrev S_ : Shape := ⟨0, ![]⟩

class Facts : Prop where
  bcast_S_S1x2048x1024 : S_.BroadcastsInDim S1x2048x1024 (![] : Fin 0 → Fin S1x2048x1024.rank)

variable [Facts]

def fn {F : FTy → Type} [FloatOps F] (main_arg0 : FVec F S4x2048x1024 .f32) (main_arg1 : FVec F S2048x1024 .f32) : IVec S1x2048x1024 1 :=
  let main_v0 : IVec S1x2048x1024 32 := iotaInDim S1x2048x1024 32 1
  let main_c : IVec S_ 32 := constantI S_ 32 64#32
  let main_v1 : IVec S1x2048x1024 32 := broadcastInDim S1x2048x1024 ![] bcast_S_S1x2048x1024 main_c
  let main_v2 : IVec S1x2048x1024 1 := cmpi .slt main_v0 main_v1
  main_v2
-- ==== Kernel.lean ====
abbrev S4x2048x1024 : Shape := ⟨3, ![4, 2048, 1024]⟩
abbrev S2048x1024 : Shape := ⟨2, ![2048, 1024]⟩
abbrev S256x1024 : Shape := ⟨2, ![256, 1024]⟩
abbrev S1x2048x1024 : Shape := ⟨3, ![1, 2048, 1024]⟩

abbrev nBuf : Space → Nat
  | .hbm => 4
  | .vmem => 4
  | .smem => 0
  | _ => 0

abbrev bufTy : (tb : Table) → Fin (tcTables nBuf tb) → BufTy
  | .hbm, ⟨0, _⟩ => ⟨S4x2048x1024, .f32⟩
  | .hbm, ⟨1, _⟩ => ⟨S2048x1024, .f32⟩
  | .hbm, ⟨2, _⟩ => ⟨S2048x1024, .f32⟩
  | .hbm, ⟨3, _⟩ => ⟨S1x2048x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference.lean ====
abbrev S4x2048x1024 : Shape := ⟨3, ![4, 2048, 1024]⟩
abbrev S2048x1024 : Shape := ⟨2, ![2048, 1024]⟩
abbrev S2048 : Shape := ⟨1, ![2048]⟩
abbrev S_ : Shape := ⟨0, ![]⟩
abbrev S2048x1 : Shape := ⟨2, ![2048, 1]⟩
abbrev S1 : Shape := ⟨1, ![1]⟩
abbrev S1x1 : Shape := ⟨2, ![1, 1]⟩
abbrev S1x2048x1024 : Shape := ⟨3, ![1, 2048, 1024]⟩

abbrev nBuf : Space → Nat
  | .hbm => 27
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S2048x1024, .f32⟩
  | .hbm, ⟨2, _⟩ => ⟨S2048, .i32⟩
  | .hbm, ⟨3, _⟩ => ⟨S_, .i32⟩
  | .hbm, ⟨4, _⟩ => ⟨S2048, .i32⟩
  | .hbm, ⟨5, _⟩ => ⟨S2048, .i1⟩
  | .hbm, ⟨6, _⟩ => ⟨S_, .i32⟩
  | .hbm, ⟨7, _⟩ => ⟨S2048, .i32⟩
  | .hbm, ⟨8, _⟩ => ⟨S2048, .i32⟩
  | .hbm, ⟨9, _⟩ => ⟨S2048, .i32⟩
  | .hbm, ⟨10, _⟩ => ⟨S2048x1, .i32⟩
  | .hbm, ⟨11, _⟩ => ⟨S1, .i32⟩
  | .hbm, ⟨12, _⟩ => ⟨S_, .i32⟩
  | .hbm, ⟨13, _⟩ => ⟨S2048x1, .i32⟩
  | .hbm, ⟨14, _⟩ => ⟨S2048x1, .i1⟩
  | .hbm, ⟨15, _⟩ => ⟨S1x1, .i32⟩
  | .hbm, ⟨16, _⟩ => ⟨S2048x1, .i32⟩
  | .hbm, ⟨17, _⟩ => ⟨S2048x1, .i1⟩
  | .hbm, ⟨18, _⟩ => ⟨S2048x1, .i1⟩
  | .hbm, ⟨19, _⟩ => ⟨S_, .i1⟩
  | .hbm, ⟨20, _⟩ => ⟨S2048, .i1⟩
  | .hbm, ⟨21, _⟩ => ⟨S2048x1024, .f32⟩
  | .hbm, ⟨22, _⟩ => ⟨S2048x1024, .i1⟩
  | .hbm, ⟨23, _⟩ => ⟨S_, .f32⟩
  | .hbm, ⟨24, _⟩ => ⟨S2048x1024, .f32⟩
  | .hbm, ⟨25, _⟩ => ⟨S2048x1024, .f32⟩
  | .hbm, ⟨26, _⟩ => ⟨S1x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v1 : Ref sig .tc := ⟨.hbm, 25, rfl⟩
abbrev main_v2 : Ref sig .tc := ⟨.hbm, 26, rfl⟩

abbrev nD : Nat := 1
abbrev τ : Topo := Topo.v7x

variable {F : FTy → Type} [FloatOps F]
-- ==== ScKernel.lean ====
abbrev S4x2048x1024 : Shape := ⟨3, ![4, 2048, 1024]⟩
abbrev S2048x1024 : Shape := ⟨2, ![2048, 1024]⟩
abbrev S2x1024 : Shape := ⟨2, ![2, 1024]⟩
abbrev S_ : Shape := ⟨0, ![]⟩
abbrev S1x2048x1024 : Shape := ⟨3, ![1, 2048, 1024]⟩

abbrev nBuf : Table → Nat
  | .hbm => 4
  | .local .scVector .vmem => 1
  | _ => 0

abbrev bufTy : (tb : Table) → Fin (nBuf tb) → BufTy
  | .hbm, ⟨0, _⟩ => ⟨S4x2048x1024, .f32⟩
  | .hbm, ⟨1, _⟩ => ⟨S2048x1024, .f32⟩
  | .hbm, ⟨2, _⟩ => ⟨S2048x1024, .f32⟩
  | .hbm, ⟨3, _⟩ => ⟨S1x2048x1024, .f32⟩
  | .local .scVector .vmem, ⟨0, _⟩ => ⟨S2x1024, .f32⟩
  | _, _ => ⟨S4x2048x1024, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 2 → Bool
  | ⟨0, _⟩ => false
  | ⟨1, _⟩ => false
  | _ => false

abbrev sig : RefSig :=
  ofTables nBuf rfl bufTy 4 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_arg1_scv : Ref sig .scVector := ⟨.hbm, 1, rfl⟩
abbrev main_v0_scv : Ref sig .scVector := ⟨.hbm, 2, rfl⟩
abbrev cc0_scratch0 : Ref sig .scVector := ⟨.vmem, 0, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32_r0 : BitVec 32 := 0#32
  ![v2.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Proof.KernelIdealCopy.lean ====
/- What the copying kernel leaves: the result of its one pallas_call is the table itself, block by block, and the
   program's result is that array under a leading axis of one. Stated for any meaning of the floats. -/
module

public import proofs.«01_k».proof.Proof.Gen.KernelIdeal.Frame
public import Idealize.ShloMosaic.Lib.Pipeline.Value
public import Idealize.ShloMosaic.Lib.StableHlo.Run

@[expose] public section

noncomputable section

namespace Cert.KernelIdeal.Copied

open Idealize.ShloMosaic Idealize.ShloMosaic.TcCoe Idealize.SL.Sem
open Idealize.ShloMosaic.Pipeline (Dat)
open Cert.KernelIdeal Cert.KernelIdeal.Gen

variable {F : FTy → Type} [FloatOps F]
variable (m : (ℓ : Loc nD τ sig) → Buf (Elt F) ℓ) (ρ : Dev nD → PrngReg)

/-- The embedding table as it was launched, at the type of the pallas_call's result. -/
abbrev table (c : Dev nD) : Buf (Elt F) ((c : Thread nD τ).loc main_v0) := m ((c : Thread nD τ).loc main_arg1)

/-- The literal start of the body's rectangles is the origin. -/
theorem origin : (![0, 0] : Fin 2 → Nat) = fun _ => 0 := by funext a; fin_cases a <;> rfl

/-- Point `t` writes back its own block of the table. -/
theorem flushed_table (c : Dev nD) (t : Fin cfg0.N) :
    (dats m 0 c).flushed 1 t = (win0_1.blk t).view.read (Elt F) (table m c) := by
  show (cfg0.win 1).cut (grid0.coords t) ((dats m 0 c).after 1 t) = _
  rw [after0_1]
  unfold out0_1
  rw [View.canon_unit_zero origin, View.ld_unit_zero origin]
  rfl

/-- A row lies in the block of the point whose number is the row's over 256. -/
theorem row_covered (i : S2048x1024.Idx) :
    ∃ t : Fin cfg0.N, (cfg0.win 1).flush t = true ∧ i ∈ ((cfg0.win 1).blk t).view.set := by
  have h0 : (i 0 : Nat) < 2048 := (i 0).isLt
  have h1 : (i 1 : Nat) < 1024 := (i 1).isLt
  have hN : cfg0.N = 8 := N_0
  refine ⟨⟨(i 0 : Nat) / 256, by omega⟩, flush0_1 _, ?_⟩
  generalize ht : (⟨(i 0 : Nat) / 256, by omega⟩ : Fin cfg0.N) = t
  have hv : t.val = (i 0 : Nat) / 256 := by rw [← ht]
  show i ∈ ((View.whole main_v0).slice (win0_1.rect t)).set
  rw [View.set_slice_whole, Rect.mem_set_unit]
  have e : win0_1.index t 0 * win0_1.size 0 = t.val * 256 ∧ win0_1.xsize (grid0.coords t) 0 = 256
      ∧ win0_1.index t 1 * win0_1.size 1 = 0 ∧ win0_1.xsize (grid0.coords t) 1 = 1024 := by
    rcases fin_N0 t with rfl | rfl | rfl | rfl | rfl | rfl | rfl | rfl <;> decide +kernel
  intro a
  match a with
  | ⟨0, _⟩ =>
    show win0_1.index t 0 * win0_1.size 0 ≤ (i 0 : Nat)
      ∧ (i 0 : Nat) < win0_1.index t 0 * win0_1.size 0 + win0_1.xsize (grid0.coords t) 0
    rw [e.1, e.2.1]; omega
  | ⟨1, _⟩ =>
    show win0_1.index t 1 * win0_1.size 1 ≤ (i 1 : Nat)
      ∧ (i 1 : Nat) < win0_1.index t 1 * win0_1.size 1 + win0_1.xsize (grid0.coords t) 1
    rw [e.2.2.1, e.2.2.2]; omega

/-- So the pallas_call's result array ends as the table. -/
theorem final_table (c : Dev nD) : (dats m 0 c).arrAt 1 cfg0.N = table m c :=
  (dats m 0 c).arrAt_eq_of_cover 1 (table m c) (fun t _ => flushed_table m c t) row_covered

/-- The program's result as a function of the table: the table under a leading axis of one. -/
abbrev lifted (e : FVec F S2048x1024 .f32) : FVec F S1x2048x1024 .f32 :=
  broadcastInDim S1x2048x1024 ![1, 2] bcast_S2048x1024_S1x2048x1024_1_2 e

/-- What device `c`'s result ends as. -/
abbrev value (c : Dev nD) : Buf (Elt F) ((c.tc : Thread nD τ).loc main_v1) :=
  lifted (m ((c.tc : Thread nD τ).loc main_arg1))

/-- The host line after the pallas_call leaves the result at the lifted table. -/
theorem tail_result (c : Dev nD) :
    Pipeline.afterTail₀ cfgs (dats m) 0 (V0 m) [hostOps1] c main_v1 = lifted (m ((c : Thread nD τ).loc main_arg1)) := by
  unfold Pipeline.afterTail₀
  have e := Pipeline.withArrays_arr (cfgs 0).spec winFacts0.arr_inj c (V0 m c) (fun w => (dats m 0 c).arrAt w (cfgs 0).N) 1
  have e' := e.trans (final_table m c)
  generalize Pipeline.withArrays (cfgs 0).spec c (V0 m c) (fun w => (dats m 0 c).arrAt w (cfgs 0).N) = W at e'
  simp only [hostOps1, List.flatten_cons, List.flatten_nil, List.append_nil]
  after_results
  exact congrArg lifted e'

/-- The run: every execution ends with the result at the lifted table and the arguments as launched. -/
theorem run : θ_run defs (onTc (τ := τ) (main (F := F))) ⟨m, fun _ => 0, ρ⟩ fun r => ∀ c : Dev nD,
      r.2.mem ((c.tc : Thread nD τ).loc main_v1) = value m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v1 (Pipeline.mem_restRefs_of main_v1 (by decide) (by decide))).trans (tail_result m c),
       ((h c).2 main_arg0 (Pipeline.mem_restRefs_of main_arg0 (by decide) (by decide))).trans (W_main_arg0 m (dats m) c),
       ((h c).1 0).trans ((dats m 0 c).arrAt_in 0 rfl _)⟩)
    (run_main m ρ)

end Cert.KernelIdeal.Copied

end
-- ==== Proof.ReferenceIdealTake.lean ====
/- What the reference computes: `jnp.take` at the positions 0, 1, …, 2047, with its wrapped negative indices and its
   fill for the ones out of range, is the table itself, since each position names its own row and none is out of range.
   Stated for any meaning of the floats. -/
module

public import proofs.«01_k».proof.Proof.Gen.ReferenceIdeal.Run
public import Idealize.ShloMosaic.Lib.ReduceAll
public import Idealize.ShloMosaic.Lib.ValueIdx
public import Idealize.ShloMosaic.Lib.Pipeline.Value

@[expose] public section

noncomputable section

namespace Cert.ReferenceIdeal.Taken

open Idealize.ShloMosaic Idealize.ShloMosaic.TcCoe Idealize.SL.Sem
open Cert.ReferenceIdeal Cert.ReferenceIdeal.Gen

variable {F : FTy → Type} [FloatOps F]

/-- The positions after `jnp.take` has wrapped the negative ones. -/
abbrev wrapped : IVec S2048 32 :=
  select (cmpi .slt (iotaInDim S2048 32 0) (broadcastInDim S2048 ![] bcast_S_S2048 (constantI S_ 32 0#32)))
    (addi (iotaInDim S2048 32 0) (broadcastInDim S2048 ![] bcast_S_S2048 (constantI S_ 32 2048#32))) (iotaInDim S2048 32 0)

/-- The same as the start indices of the gather. -/
abbrev starts : IVec S2048x1 32 := broadcastInDim S2048x1 ![0] bcast_S2048_S2048x1_0 wrapped

/-- Which positions are in range. -/
abbrev inRange : IVec S2048 1 :=
  Host.reduce IntOp.andi (andi (cmpi .sge starts (broadcastInDim S2048x1 ![] bcast_S_S2048x1 (constantI S_ 32 0#32)))
    (cmpi .sle starts (broadcastInDim S2048x1 ![0, 1] bcast_S1x1_S2048x1_0_1 (broadcastInDim S1x1 ![1] bcast_S1_S1x1_1 (constantI S1 32 2047#32)))))
    (constantI S_ 1 1#1) reducesTo_S2048x1_S2048_d1 h_S_

/-- The reference's result as a function of the table. -/
abbrev taken (e : FVec F S2048x1024 .f32) : FVec F S2048x1024 .f32 :=
  select (broadcastInDim S2048x1024 ![0] bcast_S2048_S2048x1024_0 inRange)
    (Host.gather gather_S2048x1024_S2048x1_S2048x1024_1_0_n_n_0_1_11024 e starts)
    (broadcastInDim S2048x1024 ![] bcast_S_S2048x1024 (constant S_ .f32 0x7FC00000#32))

/-- No position is negative, none exceeds 2047: the three comparisons, over all positions. -/
theorem word_bounds (n : Nat) (hn : n < 2048) :
    IntOp.cmpi .slt (BitVec.ofNat 32 n) 0#32 = 0#1 ∧ IntOp.cmpi .sge (BitVec.ofNat 32 n) 0#32 = 1#1
      ∧ IntOp.cmpi .sle (BitVec.ofNat 32 n) 2047#32 = 1#1 ∧ (BitVec.ofNat 32 n).toInt.toNat = n := by
  have h := (by decide +kernel : ∀ n : Fin 2048, IntOp.cmpi .slt (BitVec.ofNat 32 n.val) 0#32 = 0#1
    ∧ IntOp.cmpi .sge (BitVec.ofNat 32 n.val) 0#32 = 1#1
    ∧ IntOp.cmpi .sle (BitVec.ofNat 32 n.val) 2047#32 = 1#1 ∧ (BitVec.ofNat 32 n.val).toInt.toNat = n.val)
  exact h ⟨n, hn⟩

/-- Wrapping changes nothing: position `n` stays `n`. -/
theorem wrapped_apply (i : S2048.Idx) : wrapped i = BitVec.ofNat 32 (i 0 : Nat) := by
  show Scalar.select (IntOp.cmpi .slt (BitVec.ofNat 32 (i 0 : Nat)) 0#32) (IntOp.addi (BitVec.ofNat 32 (i 0 : Nat)) 2048#32)
    (BitVec.ofNat 32 (i 0 : Nat)) = _
  rw [(word_bounds _ (i 0).isLt).1]
  rfl

/-- Start index `n` of the gather is `n`. -/
theorem starts_apply (i : S2048x1.Idx) : starts i = BitVec.ofNat 32 (i 0 : Nat) :=
  wrapped_apply _

/-- Every position is in range. -/
theorem inRange_apply (i : S2048.Idx) : inRange i = 1#1 := by
  refine Host.reduce_andi_one _ _ _ _ _ rfl fun j => ?_
  show IntOp.andi (IntOp.cmpi .sge (starts j) 0#32) (IntOp.cmpi .sle (starts j) 2047#32) = 1#1
  rw [starts_apply, (word_bounds _ (j 0).isLt).2.1, (word_bounds _ (j 0).isLt).2.2.1]
  rfl

/-- The gather's rows are the table's rows, in order. -/
theorem gathered (e : FVec F S2048x1024 .f32) (i : S2048x1024.Idx) :
    Host.gather gather_S2048x1024_S2048x1_S2048x1024_1_0_n_n_0_1_11024 e starts i = e i := by
  unfold Host.gather
  refine congrArg e (funext fun a => Fin.ext ?_)
  generalize hd : gather_S2048x1024_S2048x1_S2048x1024_1_0_n_n_0_1_11024 = d
  match a with
  | ⟨0, _⟩ =>
    show d.start i starts 0 + d.batchCoord i 0 + d.offCoord i 0 = (i 0 : Nat)
    rw [GatherDims.batchCoord_eq_zero _ _ _ (by subst hd; exact List.not_mem_nil),
      GatherDims.offCoord_eq_zero _ _ _ (fun h => ((GatherDims.mem_sKept _ _).mp h).1 (by subst hd; exact List.mem_singleton.mpr rfl))]
    subst hd
    unfold GatherDims.start
    rw [dif_pos (show (0 : Fin 2) ∈ gather_S2048x1024_S2048x1_S2048x1024_1_0_n_n_0_1_11024.startIndexMap from List.mem_singleton.mpr rfl),
      starts_apply]
    show min (BitVec.ofNat 32 (i 0 : Nat)).toInt.toNat (2048 - 1) + 0 + 0 = _
    rw [(word_bounds _ (i 0).isLt).2.2.2]
    have : (i 0 : Nat) < 2048 := (i 0).isLt
    omega
  | ⟨1, _⟩ =>
    show d.start i starts 1 + d.batchCoord i 1 + d.offCoord i 1 = (i 1 : Nat)
    rw [GatherDims.batchCoord_eq_zero _ _ _ (by subst hd; exact List.not_mem_nil)]
    subst hd
    unfold GatherDims.start
    rw [dif_neg (by decide)]
    show 0 + 0 + (i 1 : Nat) = (i 1 : Nat)
    omega

/-- So what is taken is the table. -/
theorem taken_eq (e : FVec F S2048x1024 .f32) : taken e = e := by
  funext i
  show Scalar.select (inRange _) (Host.gather gather_S2048x1024_S2048x1_S2048x1024_1_0_n_n_0_1_11024 e starts i) _ = e i
  rw [inRange_apply, gathered]
  rfl

/-- The program's result as a function of the table: the table under a leading axis of one. -/
abbrev lifted (e : FVec F S2048x1024 .f32) : FVec F S1x2048x1024 .f32 :=
  broadcastInDim S1x2048x1024 ![1, 2] bcast_S2048x1024_S1x2048x1024_1_2 e

/-- The run: every execution ends with the result at the lifted table and the arguments as launched. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v2) = lifted (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨(h c).1.trans (congrArg lifted (taken_eq (m ((c.tc : Thread nD τ).loc main_arg1)))), (h c).2⟩)
    (Value.run m ρ)

end Cert.ReferenceIdeal.Taken

end
-- ==== Proof.ScKernelIdealRows.lean ====
/- The SparseCore kernel's run. Its 32 tiles, sixteen on each of two SparseCores, copy two rows of the table each: tile
   `s` of SparseCore `c` the rows `4 s + 2 c` and `4 s + 2 c + 1`. So the call's output ends with its first 64 rows at
   the table's and the others as they were (`mixed`), and the host line puts an axis of size one in front. -/
module

public import Idealize.ShloMosaic.Lib.SparseCore.Quiescent
public import Idealize.ShloMosaic.Lib.StableHlo.Run
public import Idealize.ShloMosaic.Lib.SparseCore.Ops
public import Idealize.ShloMosaic.Lib.Pipeline.Kit
public import Idealize.ShloMosaic.Lib.Tactic
public import proofs.«01_k».proof.Proof.Gen.ScKernelIdeal
public import proofs.«01_k».proof.Proof.Gen.ScKernelIdeal.Skeleton

@[expose] public section

noncomputable section

namespace Cert.ScKernelIdeal.Rows

open Cert.ScKernelIdeal Cert.ScKernelIdeal.Gen

open Idealize.ShloMosaic
open Idealize.ShloMosaic.SparseCore (S V T)
open Idealize.ShloMosaic.SparseCore.Cfg (HIx Pay ownBufs ownSems0 ownCells ownRefs mem_ownCells)
open Idealize.ShloMosaic.StableHlo (held wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem takes it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-! ## The resource algebra: the handshakes' rounds, the copies' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays, and who copies which rows -/

variable (m : (ℓ : Loc nD τ sig) → Buf (Elt F) ℓ) (ρ : Dev nD → PrngReg)

/-- The unused first argument, the table, the call's output, the result. -/
abbrev xLoc (d : Dev nD) : Loc nD τ sig := (SparseCore.T d).loc main_arg0
abbrev eLoc (d : Dev nD) : Loc nD τ sig := (SparseCore.T d).loc main_arg1
abbrev oLoc (d : Dev nD) : Loc nD τ sig := (SparseCore.T d).loc main_v0
abbrev rLoc (d : Dev nD) : Loc nD τ sig := (SparseCore.T d).loc main_v1

/-- The elements of the two rows that tile `s` of SparseCore `c` copies. -/
def rows (c : Fin 2) (s : Fin 16) : Finset S2048x1024.Idx :=
  Finset.univ.filter fun i => 4 * s.val + 2 * c.val ≤ (i 0).val ∧ (i 0).val < 4 * s.val + 2 * c.val + 2

/-- The elements of the first 64 rows. -/
def top : Finset S2048x1024.Idx := Finset.univ.filter fun i => (i 0).val < 64

omit m ρ in
theorem mem_rows {c : Fin 2} {s : Fin 16} {i : S2048x1024.Idx} :
    i ∈ rows c s ↔ 4 * s.val + 2 * c.val ≤ (i 0).val ∧ (i 0).val < 4 * s.val + 2 * c.val + 2 := by
  unfold rows; rw [Finset.mem_filter]; exact and_iff_right (Finset.mem_univ i)

omit m ρ in
theorem mem_top {i : S2048x1024.Idx} : i ∈ top ↔ (i 0).val < 64 := by
  unfold top; rw [Finset.mem_filter]; exact and_iff_right (Finset.mem_univ i)

omit m ρ in
/-- Different tiles copy different rows. -/
theorem rows_disjoint : ∀ p ∈ (Finset.univ : Finset (Fin 2 × Fin 16)), ∀ p' ∈ (Finset.univ : Finset (Fin 2 × Fin 16)),
    p ≠ p' → Disjoint (rows p.1 p.2) (rows p'.1 p'.2) := by
  rintro ⟨c, s⟩ - ⟨c', s'⟩ - hne
  refine Finset.disjoint_left.mpr fun i h h' => hne ?_
  rw [mem_rows] at h h'
  have hc := c.isLt; have hc' := c'.isLt
  exact Prod.ext (Fin.ext (by dsimp only at h h' ⊢; omega)) (Fin.ext (by dsimp only at h h' ⊢; omega))

omit m ρ in
/-- Together they copy the first 64. -/
theorem rows_cover : (Finset.univ : Finset (Fin 2 × Fin 16)).biUnion (fun p => rows p.1 p.2) = top := by
  ext i
  rw [Finset.mem_biUnion, mem_top]
  constructor
  · rintro ⟨⟨c, s⟩, -, h⟩
    rw [mem_rows] at h
    have hc := c.isLt; have hs := s.isLt
    dsimp only at h; omega
  · intro h
    refine ⟨(⟨(i 0).val / 2 % 2, by omega⟩, ⟨(i 0).val / 4, by omega⟩), Finset.mem_univ _, ?_⟩
    rw [mem_rows]
    dsimp only; omega

/-- What the call leaves in its output: the table's elements in the first 64 rows, the launch's in the others. -/
def mixed (d : Dev nD) : Buf (Elt F) (oLoc d) :=
  fun i : S2048x1024.Idx => if (i 0).val < 64 then m (eLoc d) i else m (oLoc d) i

theorem mixed_of_lt (d : Dev nD) (i : S2048x1024.Idx) (h : (i 0).val < 64) : mixed m d i = m (eLoc d) i := if_pos h

abbrev ePts (d : Dev nD) (c : Fin 2) (s : Fin 16) : sProp 𝕄 := eLoc d ↦[rows c s]{fullShare} m (eLoc d)
abbrev oPts (d : Dev nD) (f : Buf (Elt F) (oLoc d)) (c : Fin 2) (s : Fin 16) : sProp 𝕄 := oLoc d ↦[rows c s]{fullShare} f

/-- The table held whole is every tile's two rows of it, and the rest. -/
theorem table_split (d : Dev nD) (f : Buf (Elt F) (eLoc d)) :
    (eLoc d ↦{fullShare} f : sProp 𝕄)
      = iprop((bigSep Finset.univ fun c : Fin 2 => bigSep Finset.univ fun s : Fin 16 => eLoc d ↦[rows c s]{fullShare} f)
          ∗ eLoc d ↦[Finset.univ \ top]{fullShare} f) := by
  rw [← bigSep_univ_prod (fun p : Fin 2 × Fin 16 => (eLoc d ↦[rows p.1 p.2]{fullShare} f : sProp 𝕄)),
    ← pointsTo_biUnion Finset.univ (ℓ := eLoc d) (fun p : Fin 2 × Fin 16 => rows p.1 p.2) rows_disjoint, rows_cover]
  exact BI.Entails.antisymm (pointsTo_split_subset (Finset.subset_univ _)).1 (pointsTo_split_subset (Finset.subset_univ _)).2

/-- So is the output. -/
theorem output_split (d : Dev nD) (f : Buf (Elt F) (oLoc d)) :
    (oLoc d ↦{fullShare} f : sProp 𝕄)
      = iprop((bigSep Finset.univ fun c : Fin 2 => bigSep Finset.univ fun s : Fin 16 => oLoc d ↦[rows c s]{fullShare} f)
          ∗ oLoc d ↦[Finset.univ \ top]{fullShare} f) := by
  rw [← bigSep_univ_prod (fun p : Fin 2 × Fin 16 => (oLoc d ↦[rows p.1 p.2]{fullShare} f : sProp 𝕄)),
    ← pointsTo_biUnion Finset.univ (ℓ := oLoc d) (fun p : Fin 2 × Fin 16 => rows p.1 p.2) rows_disjoint, rows_cover]
  exact BI.Entails.antisymm (pointsTo_split_subset (Finset.subset_univ _)).1 (pointsTo_split_subset (Finset.subset_univ _)).2

/-- Outside the first 64 rows the output after the call is the output before it. -/
theorem rest_mixed (d : Dev nD) :
    (oLoc d ↦[Finset.univ \ top]{fullShare} m (oLoc d) : sProp 𝕄) = oLoc d ↦[Finset.univ \ top]{fullShare} mixed m d :=
  pointsTo_congr fun i hi => (if_neg fun h => (Finset.mem_sdiff.mp hi).2 (mem_top.mpr h)).symm

variable [FloatOps F]

/-! ## What the handshakes carry -/

/-- A tile takes its two rows of the table and of the output, and brings them back, the output's at the table's
    elements; a SparseCore takes and brings back those of its sixteen tiles. -/
def P : (K (F := F)).Pay (nD := nD) (Val := Elt F) (Name := ℕ) (U := UU) where
  st := fun q d c => match q with
    | 0 => iprop((bigSep Finset.univ fun s : Fin 16 => ePts m d (Fin.cast nCore_zero c) s)
        ∗ bigSep Finset.univ fun s : Fin 16 => oPts d (m (oLoc d)) (Fin.cast nCore_zero c) s)
  dn := fun q d c => match q with
    | 0 => iprop((bigSep Finset.univ fun s : Fin 16 => ePts m d (Fin.cast nCore_zero c) s)
        ∗ bigSep Finset.univ fun s : Fin 16 => oPts d (mixed m d) (Fin.cast nCore_zero c) s)
  go := fun q d c i => match q with
    | 0 => iprop(ePts m d (Fin.cast nCore_zero c) (Fin.cast nSub_zero i)
        ∗ oPts d (m (oLoc d)) (Fin.cast nCore_zero c) (Fin.cast nSub_zero i))
  td := fun q d c i => match q with
    | 0 => iprop(ePts m d (Fin.cast nCore_zero c) (Fin.cast nSub_zero i)
        ∗ oPts d (mixed m d) (Fin.cast nCore_zero c) (Fin.cast nSub_zero i))
  x := fun _ _ => iprop(emp)

instance P_storable : (P (F := F) m).IsStorable where
  st q d c := match q with
    | 0 => (inferInstance : BI.Storable (upEmb : UEmb _ 𝕄)
      iprop((bigSep Finset.univ fun s : Fin 16 => ePts m d (Fin.cast nCore_zero c) s)
        ∗ bigSep Finset.univ fun s : Fin 16 => oPts d (m (oLoc d)) (Fin.cast nCore_zero c) s))
  dn q d c := match q with
    | 0 => (inferInstance : BI.Storable (upEmb : UEmb _ 𝕄)
      iprop((bigSep Finset.univ fun s : Fin 16 => ePts m d (Fin.cast nCore_zero c) s)
        ∗ bigSep Finset.univ fun s : Fin 16 => oPts d (mixed m d) (Fin.cast nCore_zero c) s))
  go q d c i := match q with
    | 0 => (inferInstance : BI.Storable (upEmb : UEmb _ 𝕄)
      iprop(ePts m d (Fin.cast nCore_zero c) (Fin.cast nSub_zero i)
        ∗ oPts d (m (oLoc d)) (Fin.cast nCore_zero c) (Fin.cast nSub_zero i)))
  td q d c i := match q with
    | 0 => (inferInstance : BI.Storable (upEmb : UEmb _ 𝕄)
      iprop(ePts m d (Fin.cast nCore_zero c) (Fin.cast nSub_zero i)
        ∗ oPts d (mixed m d) (Fin.cast nCore_zero c) (Fin.cast nSub_zero i)))

/-! ## One tile's task -/

section Tile

variable (d : Dev nD) (L : grid0.Coords)

abbrev cV (L : grid0.Coords) : Fin τ.nSC := (L 0).castLE hcore0
abbrev jV (L : grid0.Coords) : Fin τ.nSub := (L 1).castLE hsub0
omit [FloatOps F] in
theorem bound_zero : grid0.bound 0 = 2 := rfl
omit [FloatOps F] in
theorem bound_one : grid0.bound 1 = 16 := rfl
abbrev cL (L : grid0.Coords) : Fin 2 := Fin.cast bound_zero (L 0)
abbrev sL (L : grid0.Coords) : Fin 16 := Fin.cast bound_one (L 1)

local notation "eV" => (Memref.whole Cert.ScKernelIdeal.main_arg1_scv : Memref Cert.ScKernelIdeal.sig Kind.scVector Space.hbm Cert.ScKernelIdeal.S2048x1024 EltTy.f32)
local notation "oV" => (Memref.whole Cert.ScKernelIdeal.main_v0_scv : Memref Cert.ScKernelIdeal.sig Kind.scVector Space.hbm Cert.ScKernelIdeal.S2048x1024 EltTy.f32)
local notation "bV" => (Memref.whole Cert.ScKernelIdeal.cc0_scratch0 : Memref Cert.ScKernelIdeal.sig Kind.scVector Space.vmem Cert.ScKernelIdeal.S2x1024 EltTy.f32)

/-- The tile's two rows, as the kernel computes their place, in the table and in the output. -/
abbrev place (L : grid0.Coords) : Rect S2048x1024 := Rect.unit (s := S2048x1024) (k0_off1 L) S2x1024.size (k0_off1_inb L)
abbrev eK (L : grid0.Coords) : Memref sig .scVector .hbm S2x1024 .f32 := (eV).slice (place L) (fun _ => rfl)
abbrev oK (L : grid0.Coords) : Memref sig .scVector .hbm S2x1024 .f32 := (oV).slice (place L) (fun _ => rfl)

omit [FloatOps F] in
/-- They are the rows that the tile was handed. -/
theorem set_place : (place L).set = rows (cL L) (sL L) := by
  ext i
  rw [Rect.mem_set_unit, mem_rows, k0_off1_eq, Fin.forall_fin_two]
  have h1 : (i 1).val < 1024 := (i 1).isLt
  simp only [Matrix.cons_val_zero, Matrix.cons_val_one, Fin.val_cast]
  constructor
  · rintro ⟨h, -⟩; exact h
  · intro h; exact ⟨h, Nat.zero_le _, by simpa using h1⟩

omit [FloatOps F] in
theorem set_eK : (eK L).view.set = rows (cL L) (sL L) :=
  (show ((View.whole (main_arg1_scv : Ref sig .scVector)).slice (place L)).set = (place L).set by
    rw [View.set_slice]; exact Finset.map_refl).trans (set_place L)
omit [FloatOps F] in
theorem set_oK : (oK L).view.set = rows (cL L) (sL L) :=
  (show ((View.whole (main_v0_scv : Ref sig .scVector)).slice (place L)).set = (place L).set by
    rw [View.set_slice]; exact Finset.map_refl).trans (set_place L)

omit [FloatOps F] in
theorem pts_eK (f : Buf (Elt F) (eLoc d)) :
    ((eK L).view.loc (V d (cV L) (jV L)) ↦[(eK L).view.set]{fullShare} f : sProp 𝕄)
      = eLoc d ↦[rows (cL L) (sL L)]{fullShare} f := by rw [set_eK]
omit [FloatOps F] in
theorem pts_oK (f : Buf (Elt F) (oLoc d)) :
    ((oK L).view.loc (V d (cV L) (jV L)) ↦[(oK L).view.set]{fullShare} f : sProp 𝕄)
      = oLoc d ↦[rows (cL L) (sL L)]{fullShare} f := by rw [set_oK]
omit [FloatOps F] in
theorem pts_bV (f : Buf (Elt F) ((V d (cV L) (jV L)).loc cc0_scratch0)) :
    ((bV).view.loc (V d (cV L) (jV L)) ↦{fullShare} f : sProp 𝕄) = (V d (cV L) (jV L)).loc cc0_scratch0 ↦{fullShare} f := rfl

omit [FloatOps F] in
/-- What a copy out through a rectangle of the output leaves there, if it carries what a copy in fetched through the same
    rectangle of the table: the table's elements. -/
theorem carried (r : Rect S2048x1024) (hr : ∀ a, r.stride a = 1) (g : Buf (Elt F) (oLoc d)) (w : r.shape.Idx → Elt F .f32)
    (hw : w = ((eV).slice r hr).view.read (Elt F) (m (eLoc d))) (x : r.shape.Idx) :
    ((oV).slice r hr).view.writes (Elt F) g [⟨Rect.whole r.shape, w⟩] (r.emb x) = m (eLoc d) (r.emb x) := by
  have e := congrFun (View.read_writes_whole ((oV).slice r hr).view g w) x
  rw [hw] at e ⊢
  exact e

omit [FloatOps F] in
/-- So the tile's two rows of the output end at the table's. -/
theorem copied (g : Buf (Elt F) (oLoc d)) (w : S2x1024.Idx → Elt F .f32) (hw : w = (eK L).view.read (Elt F) (m (eLoc d))) :
    ∀ i ∈ rows (cL L) (sL L), (oK L).view.writes (Elt F) g [⟨Rect.whole S2x1024, w⟩] i = mixed m d i := by
  intro i hi
  have h64 : (i 0).val < 64 := by
    rw [mem_rows] at hi
    have hc := (cL L).isLt; have hs := (sL L).isLt
    omega
  rw [mixed_of_lt m d i h64]
  rw [← set_place, ← Rect.map_emb_univ] at hi
  obtain ⟨x, -, rfl⟩ := Finset.mem_map.mp hi
  exact carried m d (place L) (fun _ => rfl) g w hw x

abbrev inCell (d : Dev nD) (c : Fin τ.nSC) (i : Fin τ.nSub) : GSem nD τ sig := (V d c i, .dma cc0_scoped0.sem)
abbrev outCell (d : Dev nD) (c : Fin τ.nSC) (i : Fin τ.nSub) : GSem nD τ sig := (V d c i, .dma cc0_scoped1.sem)

omit [FloatOps F] in
/-- The two copies' semaphores are among the tile's own. -/
theorem ownSems0_V :
    (ownSems0 (V d (cV L) (jV L)) : sProp 𝕄)
      = iprop(semVal (inCell d (cV L) (jV L)) 0 ∗ semVal (outCell d (cV L) (jV L)) 0
          ∗ bigSep (((ownCells (V d (cV L) (jV L))).erase (inCell d (cV L) (jV L))).erase (outCell d (cV L) (jV L))) fun g => semVal g 0) := by
  unfold SparseCore.Cfg.ownSems0
  rw [SparseCore.bigSep_erase' ((mem_ownCells (g := inCell d (cV L) (jV L))).mpr ⟨rfl, by
      show (SemLoc.dma cc0_scoped0.sem : SemLoc sig).isScoped .scVector = true; decide⟩),
    SparseCore.bigSep_erase' (Finset.mem_erase.mpr ⟨by simp [inCell, outCell]; decide, (mem_ownCells (g := outCell d (cV L) (jV L))).mpr ⟨rfl, by
      show (SemLoc.dma cc0_scoped1.sem : SemLoc sig).isScoped .scVector = true; decide⟩⟩)]

omit [FloatOps F] in
/-- The buffer that the rows pass through is among the tile's own. -/
theorem ownBufs_V :
    (ownBufs (V d (cV L) (jV L)) : sProp 𝕄)
      = iprop((∃ f, (V d (cV L) (jV L)).loc cc0_scratch0 ↦{fullShare} f)
          ∗ bigSep ((ownRefs (τ := τ) (.scVector (cV L) (jV L))).erase ((Proc.scVector (cV L) (jV L)).devRef cc0_scratch0))
              fun b => iprop(∃ f, ((d, b) : Loc nD τ sig) ↦{fullShare} f)) := by
  unfold SparseCore.Cfg.ownBufs
  exact SparseCore.bigSep_erase' (SparseCore.Cfg.mem_ownRefs_of_owner (p := Proc.scVector (cV L) (jV L))
    (b := (Proc.scVector (cV L) (jV L)).devRef cc0_scratch0) rfl)

set_option maxHeartbeats 400000 in
/-- The task of the tile at coordinates `L`: the copy in and its wait, the copy out and its wait. Its rows of the output
    end at the table's. -/
theorem task (hF : (K (F := F)).Facts) (O : CellTallies nD τ sig (HIx 1)) (W : Waits sig (HIx 1)) (hO : ∀ g, O g none = 0) :
    iprop(levAts (K (F := F)).L (K (F := F)).lev ∗ emp
        ∗ (ePts m d (cL L) (sL L) ∗ oPts d (m (oLoc d)) (cL L) (sL L))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_sc_probe L eV (Memref.isWhole_whole _) oV (Memref.isWhole_whole _) bV (Memref.isWhole_whole _) cc0_scoped0 cc0_scoped1)
          fun _ => iprop((ePts m d (cL L) (sL L) ∗ oPts d (mixed m d) (cL L) (sL L))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_sc_probe_eq_skeleton]; unfold cc0_sc_probe_skel
  rw [(K (F := F)).scopedBufs_V hF d (cV L) (jV L), SparseCore.Cfg.scopedSems0_V (Val := Elt F) d (cV L) (jV L), ownSems0_V, ownBufs_V]
  iintro ⟨#Hlv, -, ⟨He, Ho⟩, ⟨⟨%fb, Hb⟩, Hbufs⟩, ⟨HsemA, HsemB, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave He' := (Entails.of_eq (pts_eK (F := F) d L _).symm) $$ He
  ihave Ho' := (Entails.of_eq (pts_oK (F := F) d L _).symm) $$ Ho
  ihave Hb' := (Entails.of_eq (pts_bV (F := F) d L _).symm) $$ Hb
  sl_exec
  sl_step
  isplitl [He' Ho']
  · isplitl [He']; · iapply (Entails.of_eq (pts_eK (F := F) d L _)); iexact He'
    have hw : task.sl.dma0_1 m d L fb = (eK L).view.read (Elt F) (m (eLoc d)) := by
      unfold task.sl.dma0_1 task.sl.dma0
      simp only [Memref.view_whole, View.write_whole_univ, View.read_whole]
    iapply (Entails.of_eq ((pts_oK (F := F) d L _).trans (pointsTo_congr (copied m d L _ _ hw)))); iexact Ho'
  isplitl [Hb' Hbufs]
  · isplitl [Hb']; · iexists _; iexact Hb'
    iexact Hbufs
  isplitl [HsemA HsemB Hsems]
  · isplitl [HsemA]; · iexact HsemA
    isplitl [HsemB]; · iexact HsemB
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  exact .inl hp

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_sc_probe (coordsV c s)
          eV (Memref.isWhole_whole _) oV (Memref.isWhole_whole _) bV (Memref.isWhole_whole _) cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (task m d (coordsV ⟨_, hci.1⟩ ⟨_, hci.2⟩) hF O W hO).trans (wp_mono frame _ _ fun _ => obl_post)

end Tile

/-! ## A SparseCore's rows and its tiles' -/

omit [FloatOps F] in
theorem bigSep_tiles (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- A SparseCore deals its rows to its tiles, and gathers them from them. -/
theorem vecSplit : (K (F := F)).VecSplit' (P m) 0 := by
  intro d c
  show iprop((bigSep Finset.univ fun s : Fin 16 => ePts m d (Fin.cast nCore_zero c) s)
        ∗ bigSep Finset.univ fun s : Fin 16 => oPts d (m (oLoc d)) (Fin.cast nCore_zero c) s) ⊢ |={Set.univ}=> iprop(
      (bigSep Finset.univ fun i : Fin ((K (F := F)).nSub 0) =>
        iprop(ePts m d (Fin.cast nCore_zero c) (Fin.cast nSub_zero i) ∗ oPts d (m (oLoc d)) (Fin.cast nCore_zero c) (Fin.cast nSub_zero i)))
      ∗ ((bigSep Finset.univ fun i : Fin ((K (F := F)).nSub 0) =>
          iprop(ePts m d (Fin.cast nCore_zero c) (Fin.cast nSub_zero i) ∗ oPts d (mixed m d) (Fin.cast nCore_zero c) (Fin.cast nSub_zero i)))
          -∗ iprop((bigSep Finset.univ fun s : Fin 16 => ePts m d (Fin.cast nCore_zero c) s)
              ∗ bigSep Finset.univ fun s : Fin 16 => oPts d (mixed m d) (Fin.cast nCore_zero c) s)))
  rw [bigSep_tiles (F := F) (fun s => iprop(ePts m d (Fin.cast nCore_zero c) s ∗ oPts d (m (oLoc d)) (Fin.cast nCore_zero c) s)),
    bigSep_tiles (F := F) (fun s => iprop(ePts m d (Fin.cast nCore_zero c) s ∗ oPts d (mixed m d) (Fin.cast nCore_zero c) s)),
    bigSep_sep', bigSep_sep']
  iintro H; imodintro
  isplitl [H]; · iexact H
  iintro H; iexact H

/-! ## The launch element -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main -/

abbrev o' : DevRef τ sig := Proc.devRef .tc (main_v0 : Ref sig .tc)
abbrev r' : DevRef τ sig := Proc.devRef .tc (main_v1 : Ref sig .tc)
/-- The host line after the call. -/
abbrev lift : HloOp τ sig (Elt F) :=
  StableHlo.unary main_v0 main_v1 (broadcastInDim S1x2048x1024 ![1, 2] bcast_S2048x1024_S1x2048x1024_1_2 :
    (⟨S2048x1024, .f32⟩ : BufTy).Contents (Elt F) → (⟨S1x2048x1024, .f32⟩ : BufTy).Contents (Elt F))

/-- An array of the output's shape under a leading axis of one. -/
abbrev lifted (e : FVec F S2048x1024 .f32) : FVec F S1x2048x1024 .f32 :=
  broadcastInDim S1x2048x1024 ![1, 2] bcast_S2048x1024_S1x2048x1024_1_2 e

/-- What device `d`'s result ends as. -/
abbrev value (d : Dev nD) : Buf (Elt F) ((d.tc : Thread nD τ).loc main_v1) := lifted (mixed m d)

/-- At the first 64 rows the result is the lifted table. -/
theorem value_of_lt (d : Dev nD) (i : S1x2048x1024.Idx) (h : (i 1).val < 64) : value m d i = lifted (F := F) (m (eLoc d)) i :=
  mixed_of_lt m d _ h

abbrev S2 : Finset (DevRef τ sig) := {o', r'}

omit [FloatOps F] in
theorem held_S2 (d : Dev nD) (W : Valuation τ sig (Elt F)) :
    (held (SparseCore.T d) S2 W : sProp 𝕄) = iprop((oLoc d ↦{fullShare} W o') ∗ rLoc d ↦{fullShare} W r') := by
  unfold held S2
  rw [SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄)
      = iprop((xLoc d ↦{fullShare} W main_arg0) ∗ (eLoc d ↦{fullShare} W main_arg1) ∗ (oLoc d ↦{fullShare} W main_v0) ∗ rLoc d ↦{fullShare} W main_v1) := by
  unfold unscopedBufs
  rw [show (Finset.univ.filter fun b : Ref sig .tc => ¬ b.isScoped) = {main_arg0, main_arg1, main_v0, main_v1} by decide,
    SparseCore.bigSep_insert' (by decide), SparseCore.bigSep_insert' (by decide), SparseCore.bigSep_insert' (by decide), bigSep_singleton]

/-- The arrays after the call. -/
def V1 (d : Dev nD) : Valuation τ sig (Elt F) := Function.update (fun b => m (d, b)) o' (mixed m d)

theorem V1_o (d : Dev nD) : V1 m d o' = mixed m d := Function.update_self _ _ _
theorem V1_r (d : Dev nD) : V1 m d r' = m (rLoc d) := Function.update_of_ne (show r' ≠ o' by decide) _ _

theorem lift_sub : (lift (F := F)).bufs ⊆ S2 := show ({o', r'} : Finset (DevRef τ sig)) ⊆ S2 by decide

/-- The host line leaves the result at the lifted output. -/
theorem lift_r (d : Dev nD) : (lift (F := F)).result (V1 m d) r' = value m d := by
  rw [StableHlo.unary_result, V1_o]

/-- What the call takes for the two SparseCores, and what they hand back. -/
theorem st0_eq (d : Dev nD) : (bigSep Finset.univ fun c : Fin ((K (F := F)).nCore 0) => (P m).st 0 d c)
    = iprop((bigSep Finset.univ fun c : Fin 2 => bigSep Finset.univ fun s : Fin 16 => ePts m d c s)
        ∗ bigSep Finset.univ fun c : Fin 2 => bigSep Finset.univ fun s : Fin 16 => oPts d (m (oLoc d)) c s) :=
  (bigSep_cores (F := F) fun c => iprop((bigSep Finset.univ fun s : Fin 16 => ePts m d c s)
        ∗ bigSep Finset.univ fun s : Fin 16 => oPts d (m (oLoc d)) c s)).trans (bigSep_sep' _ _ _)
theorem dn0_eq (d : Dev nD) : (bigSep Finset.univ fun c : Fin ((K (F := F)).nCore 0) => (P m).dn 0 d c)
    = iprop((bigSep Finset.univ fun c : Fin 2 => bigSep Finset.univ fun s : Fin 16 => ePts m d c s)
        ∗ bigSep Finset.univ fun c : Fin 2 => bigSep Finset.univ fun s : Fin 16 => oPts d (mixed m d) c s) :=
  (bigSep_cores (F := F) fun c => iprop((bigSep Finset.univ fun s : Fin 16 => ePts m d c s)
        ∗ bigSep Finset.univ fun s : Fin 16 => oPts d (mixed m d) c s)).trans (bigSep_sep' _ _ _)

/-- What @main leaves the claim: the arguments at their launch contents, the result at its value. -/
abbrev FIN (d : Dev nD) : sProp 𝕄 :=
  iprop((xLoc d ↦{fullShare} m (xLoc d)) ∗ (eLoc d ↦{fullShare} m (eLoc d)) ∗ rLoc d ↦{fullShare} value m d)

/-- @main on device `d`'s TensorCore: the call, from the first 64 rows of the table and of the output, and the host line. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq, table_split, output_split]
  simp only [main, wp_bind, wp_pure]
  iintro ⟨#Hctx, Hst, ⟨Hb, ⟨Hx, ⟨He, Her⟩, ⟨Ho, Hor⟩, Hr⟩, Hts, -⟩, -⟩
  iapply ((K (F := F)).wp_run (D (F := F)) 𝒱 (EH := EH) (P := P m) κ d 0) $$ [Hst Hx He Her Ho Hor Hr Hb Hts]
  isplitr; · iexact Hctx
  isplitl [Hst]; · iexact Hst
  isplitl [He Ho]
  · rw [st0_eq]
    isplitl [He]; · iexact He
    iexact Ho
  iintro ⟨Hst, Hdn⟩
  ihave Hdn' := (Entails.of_eq (dn0_eq m d)) $$ Hdn
  icases Hdn' with ⟨He, Ho⟩
  ihave Hor' := (Entails.of_eq (rest_mixed m d)) $$ Hor
  ihave He' := (Entails.of_eq (table_split d (m (eLoc d))).symm) $$ [He Her]
  · isplitl [He]; · iexact He
    iexact Her
  ihave Ho' := (Entails.of_eq (output_split d (mixed m d)).symm) $$ [Ho Hor']
  · isplitl [Ho]; · iexact Ho
    iexact Hor'
  iapply (wp_hlo_within 𝒱 (SparseCore.T d) none Set.univ (op := lift) (S := S2) lift_sub (V := V1 m d)) $$ [Hb Ho' Hr]
  · isplitl [Hb]; · iexact Hb
    rw [held_S2, V1_o, V1_r]
    isplitl [Ho']; · iexact Ho'
    iexact Hr
  iintro ⟨Hb, Hheld⟩
  ihave Hh := (Entails.of_eq (held_S2 (F := F) d _)) $$ Hheld
  icases Hh with ⟨-, Hr⟩
  ihave Hr' := (Entails.of_eq (congrArg (fun f => (rLoc d ↦{fullShare} f : sProp 𝕄)) (lift_r m d))) $$ Hr
  rw [wp_ret]; imodintro; imodintro
  isplitl [Hst]; · iexact Hst
  isplitr [Hb Hts]
  · isplitl [Hx]; · iexact Hx
    isplitl [He']; · iexact He'
    iexact Hr'
  isplitl [Hb] <;> iassumption

def fq (d : Dev nD) (s' : Phys nD τ sig (Elt F)) : Prop :=
  s'.mem.mem (rLoc d) = value m d ∧ s'.mem.mem (xLoc d) = m (xLoc d) ∧ s'.mem.mem (eLoc d) = m (eLoc d)

set_option maxRecDepth 16384 in
theorem hfin (d : Dev nD) (s' : Phys nD τ sig (Elt F)) : iprop(FIN m d ∗ SI s') ⊢ (⌜fq m d s'⌝ : sProp 𝕄) := by
  iintro ⟨⟨Hx, He, Hr⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (persistent_entails_right (SI_pointsTo_agree (st := s') (ℓ := eLoc d) (I := Finset.univ) (q := fullShare) (f := m (eLoc d)))) $$ [HSI He]
  · isplitl [HSI] <;> iassumption
  icases H with ⟨%h2, HSI, -⟩
  ihave H := (SI_pointsTo_agree (st := s') (ℓ := rLoc d) (I := Finset.univ) (q := fullShare) (f := value m d)) $$ [HSI Hr]
  · isplitl [HSI] <;> iassumption
  icases H with %h3
  ipureintro
  exact ⟨funext fun i => h3 i (Finset.mem_univ i), funext fun i => h1 i (Finset.mem_univ i), funext fun i => h2 i (Finset.mem_univ i)⟩

/-! ## The run -/

/-- Every execution ends with the result at its value, the arguments as launched and every semaphore counter at zero. -/
theorem run [∀ e, Nonempty (Elt F e)] :
    θ_run (Cert.ScKernelIdeal.defs (F := F)) (Cert.ScKernelIdeal.threads (F := F)) ⟨m, fun _ => 0, ρ⟩ fun r =>
      (∀ d : Dev nD, r.2.mem (rLoc d) = value m d ∧ r.2.mem (xLoc d) = m (xLoc d) ∧ r.2.mem (eLoc d) = m (eLoc d))
      ∧ r.2.sem = fun _ => 0 :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) _ (fun _ h hz => ⟨h, hz⟩)

end Cert.ScKernelIdeal.Rows

end
-- ==== Proof.FirstRows.lean ====
/- The mask `first_rows` at an index: set exactly at the first 64 rows. -/
module

public import proofs.«01_k».proof.Proof.Gen.On_first_rows

@[expose] public section

namespace Cert.On_first_rows.Rows

open Idealize.ShloMosaic
open Cert.On_first_rows Cert.On_first_rows.Gen

/-- Comparing the row's number, as a 32-bit word, with 64: decided over the 2048 rows. -/
theorem word_lt (n : Nat) (hn : n < 2048) : IntOp.cmpi .slt (BitVec.ofNat 32 n) 64#32 = 1#1 ↔ n < 64 := by
  have h := (by decide +kernel : ∀ n : Fin 2048, IntOp.cmpi .slt (BitVec.ofNat 32 n.val) 64#32 = 1#1 ↔ n.val < 64)
  exact h ⟨n, hn⟩

/-- The mask is set at an index exactly when its row is one of the first 64. -/
theorem set_iff {F : FTy → Type} [FloatOps F] (x : FVec F S4x2048x1024 .f32) (e : FVec F S2048x1024 .f32)
    (i : S1x2048x1024.Idx) : fn x e i = 1#1 ↔ (i 1).val < 64 := by
  show IntOp.cmpi .slt (BitVec.ofNat 32 (i 1 : Nat)) 64#32 = 1#1 ↔ _
  exact word_lt _ (i 1).isLt

end Cert.On_first_rows.Rows

end
-- ==== Proof.lean ====
module

public import proofs.«01_k».proof.Defs
public import proofs.«01_k».proof.Proof.KernelCopy
public import proofs.«01_k».proof.Proof.KernelIdealCopy
public import proofs.«01_k».proof.Proof.ReferenceTake
public import proofs.«01_k».proof.Proof.ReferenceIdealTake
public import proofs.«01_k».proof.Proof.Gen.ScKernel
public import proofs.«01_k».proof.Proof.Gen.ScKernel.Skeleton
public import proofs.«01_k».proof.Proof.Gen.ScKernelIdeal
public import proofs.«01_k».proof.Proof.Gen.ScKernelIdeal.Skeleton
public import proofs.«01_k».proof.Proof.Gen.On_first_rows
public import proofs.«01_k».proof.Proof.ScKernelRows
public import proofs.«01_k».proof.Proof.ScKernelIdealRows
public import proofs.«01_k».proof.Proof.FirstRows
public import Idealize.ShloMosaic.Lib.Quiescent

@[expose] public section

noncomputable section

namespace Cert.Proof

open Idealize.ShloMosaic Idealize.SL.Sem

/-- The words of the kernel's result are the reference's: both are the table's. -/
theorem bitexact : Cert.bitexact_Kernel_Reference := by
  intro m ρ m' ρ' _ hagree
  refine ⟨Cert.Kernel.Copied.value m, Cert.Kernel.Copied.run (F := Bits) m ρ, ?_⟩
  exact (θ_run Cert.Reference.defs _ _).mono
    (fun _ h c => ⟨(h c).1.trans (congrArg (Cert.Kernel.Copied.lifted (F := Bits)) (hagree c).2), (h c).2⟩)
    (Cert.Reference.Taken.run (F := Bits) m' ρ')

/-- Over the extended reals the kernel's result is the reference's: both are the table. -/
theorem algebraic : Cert.algebraic_KernelIdeal_ReferenceIdeal := by
  intro m ρ m' ρ' _ hagree
  refine ⟨Cert.KernelIdeal.Copied.value m, Cert.KernelIdeal.Copied.run (F := Ideal) m ρ, ?_⟩
  exact (θ_run Cert.ReferenceIdeal.defs _ _).mono
    (fun _ h c => ⟨(h c).1.trans (congrArg (Cert.KernelIdeal.Copied.lifted (F := Ideal)) (hagree c).2), (h c).2⟩)
    (Cert.ReferenceIdeal.Taken.run (F := Ideal) m' ρ')

/-- The reference terminates, keeps its arguments and has no semaphore. -/
theorem frame_reference : Cert.quiescent_Reference := fun m ρ _ =>
  (θ_run Cert.Reference.defs _ _).mono (fun r h => ⟨fun c => (h c).2, sem_eq_zero_of_no_sems (by decide) r.2⟩)
    (Cert.Reference.Taken.run (F := Bits) m ρ)

/-- So does its ideal program. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Taken.run (F := Ideal) m ρ)

/-- The SparseCore kernel terminates, keeps its arguments and leaves every semaphore counter at zero. -/
theorem frame_scKernel : Cert.quiescent_ScKernel := fun m ρ _ =>
  (θ_run Cert.ScKernel.defs Cert.ScKernel.threads _).mono (fun _ h => ⟨fun c => (h.1 c).2, h.2⟩)
    (Cert.ScKernel.Rows.run (F := Bits) m ρ)

/-- So does its ideal program. -/
theorem frame_scKernelIdeal : Cert.quiescent_ScKernelIdeal := fun m ρ _ =>
  (θ_run Cert.ScKernelIdeal.defs Cert.ScKernelIdeal.threads _).mono (fun _ h => ⟨fun c => (h.1 c).2, h.2⟩)
    (Cert.ScKernelIdeal.Rows.run (F := Ideal) m ρ)

/-- On the first 64 rows the words of the SparseCore kernel's result are the reference's. -/
theorem bitexact_scKernel : Cert.bitexact_ScKernel_Reference_on_first_rows := by
  intro m ρ m' ρ' _ hagree
  refine ⟨Cert.ScKernel.Rows.value m, ?_, ?_⟩
  · exact (θ_run Cert.ScKernel.defs Cert.ScKernel.threads _).mono
      (fun _ h c => ⟨fun i _ => congrFun (h.1 c).1 i, (h.1 c).2⟩) (Cert.ScKernel.Rows.run (F := Bits) m ρ)
  · exact (θ_run Cert.Reference.defs _ _).mono
      (fun _ h c => ⟨fun i hi =>
          (congrFun ((h c).1.trans (congrArg (Cert.ScKernel.Rows.lifted (F := Bits)) (hagree c).2)) i).trans
            (Cert.ScKernel.Rows.value_of_lt m c i ((Cert.On_first_rows.Rows.set_iff _ _ i).mp hi)).symm, (h c).2⟩)
      (Cert.Reference.Taken.run (F := Bits) m' ρ')

/-- Over the extended reals, on the first 64 rows, the SparseCore kernel's result is the reference's. -/
theorem algebraic_scKernel : Cert.algebraic_ScKernelIdeal_ReferenceIdeal_on_first_rows := by
  intro m ρ m' ρ' _ hagree
  refine ⟨Cert.ScKernelIdeal.Rows.value m, ?_, ?_⟩
  · exact (θ_run Cert.ScKernelIdeal.defs Cert.ScKernelIdeal.threads _).mono
      (fun _ h c => ⟨fun i _ => congrFun (h.1 c).1 i, (h.1 c).2⟩) (Cert.ScKernelIdeal.Rows.run (F := Ideal) m ρ)
  · exact (θ_run Cert.ReferenceIdeal.defs _ _).mono
      (fun _ h c => ⟨fun i hi =>
          (congrFun ((h c).1.trans (congrArg (Cert.ScKernelIdeal.Rows.lifted (F := Ideal)) (hagree c).2)) i).trans
            (Cert.ScKernelIdeal.Rows.value_of_lt m c i ((Cert.On_first_rows.Rows.set_iff _ _ i).mp hi)).symm, (h c).2⟩)
      (Cert.ReferenceIdeal.Taken.run (F := Ideal) m' ρ')

/-- All the claims. -/
theorem claim : Cert.Claim :=
  ⟨Cert.Kernel.Gen.facts, Cert.KernelIdeal.Gen.facts, Cert.Reference.Gen.facts, Cert.ReferenceIdeal.Gen.facts,
    Cert.ScKernel.Gen.facts, Cert.ScKernelIdeal.Gen.facts, Cert.On_first_rows.Gen.facts,
    fun m ρ _ => Cert.Kernel.Gen.frame m ρ, fun m ρ _ => Cert.KernelIdeal.Gen.frame m ρ,
    frame_reference, frame_referenceIdeal, frame_scKernel, frame_scKernelIdeal, trivial, algebraic, bitexact,
    trivial, algebraic_scKernel, bitexact_scKernel⟩

end Cert.Proof

end
